-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32768x1024 : Shape := ⟨2, ![32768, 1024]⟩
abbrev S17 : Shape := ⟨1, ![17]⟩
abbrev S1024x1024 : Shape := ⟨2, ![1024, 1024]⟩
abbrev S1024 : Shape := ⟨1, ![1024]⟩
abbrev S1x1024 : Shape := ⟨2, ![1, 1024]⟩
abbrev S3x2048x1024 : Shape := ⟨3, ![3, 2048, 1024]⟩
abbrev S3 : Shape := ⟨1, ![3]⟩
abbrev S_ : Shape := ⟨0, ![]⟩
abbrev S1 : Shape := ⟨1, ![1]⟩
abbrev S1x1024x1024 : Shape := ⟨3, ![1, 1024, 1024]⟩
abbrev S1x2048x1024 : Shape := ⟨3, ![1, 2048, 1024]⟩
abbrev S2048x1024 : Shape := ⟨2, ![2048, 1024]⟩

abbrev nBuf : Space → Nat
  | .hbm => 6
  | .vmem => 4
  | .smem => 0
  | _ => 0

abbrev bufTy : (tb : Table) → Fin (tcTables nBuf tb) → BufTy
  | .hbm, ⟨0, _⟩ => ⟨S32768x1024, .f32⟩
  | .hbm, ⟨1, _⟩ => ⟨S17, .i32⟩
  | .hbm, ⟨2, _⟩ => ⟨S1024x1024, .f32⟩
  | .hbm, ⟨3, _⟩ => ⟨S1024, .f32⟩
  | .hbm, ⟨4, _⟩ => ⟨S1x1024, .f32⟩
  | .hbm, ⟨5, _⟩ => ⟨S32768x1024, .f32⟩
  | .local _ .vmem, ⟨0, _⟩ => ⟨S1x1024, .f32⟩
  | .local _ .vmem, ⟨1, _⟩ => ⟨S3x2048x1024, .f32⟩
  | .local _ .vmem, ⟨2, _⟩ => ⟨S3x2048x1024, .f32⟩
  | .local _ .vmem, ⟨3, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S32768x1024 : Shape := ⟨2, ![32768, 1024]⟩
abbrev S17 : Shape := ⟨1, ![17]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S17, .i32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S32768x1024, .f32⟩
  | .hbm, ⟨6, _⟩ => ⟨S1x1024, .f32⟩
  | .hbm, ⟨7, _⟩ => ⟨S32768x1024, .f32⟩
  | .hbm, ⟨8, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Proof.Slots.lean ====
/-
  Buffers cut into slots, read and written through the squeeze of a slice.

  A scratch buffer of three slots is written one slot at a time: a transfer lands in the squeeze of a slot's slice,
  or a store fills the slot's rectangle. The facts here say what a slot then holds, whatever lies in the other slots.
-/
module

public import Idealize.ShloMosaic.Lib.Writes
public import Idealize.ShloMosaic.Lib.ViewIndex
public import Idealize.ShloMosaic.Lib.Exec.Geometry

@[expose] public section

noncomputable section

namespace Cert.Affine

open Idealize.ShloMosaic

variable {sig : RefSig} {κ : Kind} {sp : Space} {s t : Shape} {e : EltTy} {Val : EltTy → Type}

/-- A cast of a shape to itself changes nothing. -/
theorem shapeCast_same {α : Type} (x : s.Idx → α) (h : s.ShapeCasts s) : shapeCast s x h = x := by
  funext j
  exact congrArg x (by simp [Shape.reshapeEquiv])

/-- Casting there and back changes nothing. -/
theorem shapeCast_back {α : Type} (x : s.Idx → α) (h : s.ShapeCasts t) (h' : t.ShapeCasts s) :
    shapeCast s (shapeCast t x h) h' = x := by
  funext j
  exact congrArg x (by simp [Shape.reshapeEquiv])

/-- A rectangle just stored is read back as the stored value. -/
theorem readAt_stored (v : View sig κ sp s e) (r : Rect s) (f : v.ty.Contents Val) (w : r.shape.Idx → Val e)
    (L : List (View.Piece Val s e)) : v.readAt Val r.toLoadRect (v.writes Val f (⟨r, w⟩ :: L)) = w :=
  funext fun x => View.read_writes_cons_emb v f r w L x

/-- A slot just stored, read through the squeeze of its slice: the stored value, cast. -/
theorem read_slot_stored (M : Memref sig κ sp s e) (r : Rect s) (h : ∀ a, r.stride a = 1) (hq : r.shape.Squeezes t)
    (f : M.view.ty.Contents Val) (w : t.Idx → Val e) (hc : t.ShapeCasts r.shape) (L : List (View.Piece Val s e)) :
    ((M.slice r h).squeeze t hq).view.read Val (M.view.writes Val f (⟨r, shapeCast r.shape w hc⟩ :: L)) = w := by
  have hn : r.shape.ShapeCasts t := hc.symm
  refine Eq.trans (b := shapeCast t (M.view.readAt Val r.toLoadRect (M.view.writes Val f (⟨r, shapeCast r.shape w hc⟩ :: L))) hn) rfl ?_
  rw [readAt_stored]
  exact shapeCast_back w hc hn

/-- What a transfer lands in a slot, through the squeeze of its slice, is what the slot's rectangle reads, cast. -/
theorem slot_landed (M : Memref sig κ sp s e) (r : Rect s) (h : ∀ a, r.stride a = 1) (hq : r.shape.Squeezes t)
    (hc : r.shape.ShapeCasts t) (f : M.view.ty.Contents Val) (w : t.Idx → Val e) :
    shapeCast t (M.view.readAt Val r.toLoadRect (((M.slice r h).squeeze t hq).view.write Val f w Finset.univ)) hc = w :=
  View.read_write_univ (v := ((M.slice r h).squeeze t hq).view) f w

/-- A transfer into one slot leaves every rectangle apart from it as it was. -/
theorem slot_other (M : Memref sig κ sp s e) (r r' : Rect s) (h' : ∀ a, r'.stride a = 1) (hq : r'.shape.Squeezes t)
    (f : M.view.ty.Contents Val) (w : t.Idx → Val e) (hd : Disjoint r.set r'.set) :
    M.view.readAt Val r.toLoadRect (((M.slice r' h').squeeze t hq).view.write Val f w Finset.univ)
      = M.view.readAt Val r.toLoadRect f := by
  have e₁ : ((M.slice r' h').squeeze t hq).view.write Val f w Finset.univ = _ :=
    View.write_reshape_univ (M.slice r' h').view _ f w
  rw [e₁]
  exact View.read_slice_write_slice_of_disjoint (v := M.view) r r' f _ Finset.univ
    (by rw [View.setOn_univ]; exact View.disjoint_slice hd)

/-- What a transfer lands in a slot stays there while a transfer lands in another. -/
theorem slot_landed₁ {t₁ : Shape} (M : Memref sig κ sp s e) (r r₁ : Rect s) (h : ∀ a, r.stride a = 1) (h₁ : ∀ a, r₁.stride a = 1)
    (hq : r.shape.Squeezes t) (hq₁ : r₁.shape.Squeezes t₁) (hc : r.shape.ShapeCasts t) (f : M.view.ty.Contents Val)
    (w : t.Idx → Val e) (w₁ : t₁.Idx → Val e) (hd : Disjoint r.set r₁.set) :
    shapeCast t (M.view.readAt Val r.toLoadRect (((M.slice r₁ h₁).squeeze t₁ hq₁).view.write Val
      (((M.slice r h).squeeze t hq).view.write Val f w Finset.univ) w₁ Finset.univ)) hc = w := by
  rw [slot_other M r r₁ h₁ hq₁ _ w₁ hd]; exact slot_landed M r h hq hc f w

/-- What a transfer lands in a slot stays there while transfers land in two others. -/
theorem slot_landed₂ {t₁ t₂ : Shape} (M : Memref sig κ sp s e) (r r₁ r₂ : Rect s) (h : ∀ a, r.stride a = 1) (h₁ : ∀ a, r₁.stride a = 1)
    (h₂ : ∀ a, r₂.stride a = 1) (hq : r.shape.Squeezes t) (hq₁ : r₁.shape.Squeezes t₁) (hq₂ : r₂.shape.Squeezes t₂)
    (hc : r.shape.ShapeCasts t) (f : M.view.ty.Contents Val) (w : t.Idx → Val e) (w₁ : t₁.Idx → Val e) (w₂ : t₂.Idx → Val e)
    (hd : Disjoint r.set r₁.set) (hd₂ : Disjoint r.set r₂.set) :
    shapeCast t (M.view.readAt Val r.toLoadRect (((M.slice r₂ h₂).squeeze t₂ hq₂).view.write Val
      (((M.slice r₁ h₁).squeeze t₁ hq₁).view.write Val
        (((M.slice r h).squeeze t hq).view.write Val f w Finset.univ) w₁ Finset.univ) w₂ Finset.univ)) hc = w := by
  rw [slot_other M r r₂ h₂ hq₂ _ w₂ hd₂]; exact slot_landed₁ M r r₁ h h₁ hq hq₁ hc f w w₁ hd

/-- One more write, at the head of two lists of writes that agree. -/
theorem cons_piece {r : Rect s} {w w' : r.shape.Idx → Val e} {L L' : List (View.Piece Val s e)} (hw : w = w') (hL : L = L') :
    (⟨r, w⟩ :: L : List (View.Piece Val s e)) = ⟨r, w'⟩ :: L' := by rw [hw, hL]

end Cert.Affine
-- ==== Proof.Body.lean ====
/-
  What the kernel's body works on and what it computes.

  The operands by name, one step's tile as a term of its rows, the weights and the bias, the eighteen pieces that the
  steps write into the result, and the fact that a tile stored in a slot is read back from it as that tile.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Slots
public import Idealize.ShloMosaic.Lib.Pipeline.FrameBody
public import Idealize.ShloMosaic.Lib.Pipeline.Routed
public import Idealize.ShloMosaic.Lib.Tactic

@[expose] public section

set_option maxRecDepth 16384

noncomputable section

namespace Cert.KernelIdeal.Hand

open Cert.KernelIdeal Cert.KernelIdeal.Gen Cert.Affine
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-! ## The operands -/

/-- The input, left in HBM. -/
abbrev xM : Memref sig .tc .hbm S32768x1024 .f32 := Memref.whole main_arg0
/-- The weights, left in HBM. -/
abbrev wM : Memref sig .tc .hbm S1024x1024 .f32 := Memref.whole main_arg2
/-- The result, left in HBM. -/
abbrev oM : Memref sig .tc .hbm S32768x1024 .f32 := Memref.whole main_v1
/-- The input's three slots. -/
abbrev xbM : Memref sig .tc .vmem S3x2048x1024 .f32 := Memref.whole cc0_scratch0
/-- The result's three slots. -/
abbrev obM : Memref sig .tc .vmem S3x2048x1024 .f32 := Memref.whole cc0_scratch1
/-- The weights in the narrow format. -/
abbrev wbM : Memref sig .tc .vmem S1024x1024 .bf16 := Memref.whole cc0_scratch2

/-- The contents of a memref's buffer on core `c`. -/
abbrev Held (c : Dev nD) {sp : Space} {S : Shape} {e : EltTy} (M : Memref sig .tc sp S e) : Type := Buf (Elt F) (M.view.loc (c : Thread nD τ))
/-- A memref's buffer held whole on core `c` at contents `f`. -/
abbrev holds (c : Dev nD) {sp : Space} {S : Shape} {e : EltTy} (M : Memref sig .tc sp S e) (f : Held (F := F) c M) : sProp 𝕄 :=
  M.view.loc (c : Thread nD τ) ↦{fullShare} f

/-! ## What one step computes -/

/-- The weights as the kernel keeps them: read whole and narrowed. -/
def weights {c : Dev nD} (fw : Held (F := F) c wM) : FVec F S1024x1024 .bf16 :=
  truncf .bf16 (wM.view.read (Elt F) fw) bitsLt_bf16_f32

/-- One step on 2048 rows: the rows narrowed, times the weights contracted on their second axis, plus the bias on every row. -/
def tile2048 (x : FVec F S2048x1024 .f32) (w : FVec F S1024x1024 .bf16) (b : FVec F S1x1024 .f32) : FVec F S2048x1024 .f32 :=
  addf (matmul dot_S2048x1024_S1024x1024_S2048x1024_1_1_0_0_n_n none (truncf .bf16 x bitsLt_bf16_f32) w (constant S2048x1024 .f32 0x00000000#32))
    (broadcastTo S2048x1024 b broadcasts_S1x1024_S2048x1024)

/-- One step on 1024 rows. -/
def tile1024 (x : FVec F S1024x1024 .f32) (w : FVec F S1024x1024 .bf16) (b : FVec F S1x1024 .f32) : FVec F S1024x1024 .f32 :=
  addf (matmul dot_S1024x1024_S1024x1024_S1024x1024_1_1_0_0_n_n none (truncf .bf16 x bitsLt_bf16_f32) w (constant S1024x1024 .f32 0x00000000#32))
    (broadcastTo S1024x1024 b broadcasts_S1x1024_S1024x1024)

/-- 2048 rows of a matrix of 32768, from row `o`. -/
abbrev rows2048 (o : ℕ) (h : ∀ a, (![o, 0] : Fin 2 → ℕ) a + S2048x1024.size a ≤ S32768x1024.size a) : Rect S32768x1024 :=
  Rect.unit (s := S32768x1024) ![o, 0] S2048x1024.size h
/-- 1024 rows of a matrix of 32768, from row `o`. -/
abbrev rows1024 (o : ℕ) (h : ∀ a, (![o, 0] : Fin 2 → ℕ) a + S1024x1024.size a ≤ S32768x1024.size a) : Rect S32768x1024 :=
  Rect.unit (s := S32768x1024) ![o, 0] S1024x1024.size h

section
variable {c : Dev nD} (fx : Held (F := F) c xM) (fw : Held (F := F) c wM) (b : FVec F S1x1024 .f32)

/-- The piece of the result that a step on the 2048 rows from row `o` writes. -/
def piece2048 (o : ℕ) (h : ∀ a, (![o, 0] : Fin 2 → ℕ) a + S2048x1024.size a ≤ S32768x1024.size a) : View.Piece (Elt F) S32768x1024 .f32 :=
  ⟨rows2048 o h, tile2048 ((xM.slice (rows2048 o h) (fun _ => rfl)).view.read (Elt F) fx) (weights fw) b⟩
/-- The piece of the result that a step on the 1024 rows from row `o` writes. -/
def piece1024 (o : ℕ) (h : ∀ a, (![o, 0] : Fin 2 → ℕ) a + S1024x1024.size a ≤ S32768x1024.size a) : View.Piece (Elt F) S32768x1024 .f32 :=
  ⟨rows1024 o h, tile1024 ((xM.slice (rows1024 o h) (fun _ => rfl)).view.read (Elt F) fx) (weights fw) b⟩

/-- The pieces of the result that the eighteen steps write, the last first. -/
def pieces : List (View.Piece (Elt F) S32768x1024 .f32) :=
  [piece1024 fx fw b 31744 inb_S32768x1024_S1024x1024_31744_0, piece1024 fx fw b 30720 inb_S32768x1024_S1024x1024_30720_0,
    piece2048 fx fw b 28672 inb_S32768x1024_S2048x1024_28672_0, piece2048 fx fw b 26624 inb_S32768x1024_S2048x1024_26624_0,
    piece2048 fx fw b 24576 inb_S32768x1024_S2048x1024_24576_0, piece2048 fx fw b 22528 inb_S32768x1024_S2048x1024_22528_0,
    piece2048 fx fw b 20480 inb_S32768x1024_S2048x1024_20480_0, piece2048 fx fw b 18432 inb_S32768x1024_S2048x1024_18432_0,
    piece2048 fx fw b 16384 inb_S32768x1024_S2048x1024_16384_0, piece2048 fx fw b 14336 inb_S32768x1024_S2048x1024_14336_0,
    piece2048 fx fw b 12288 inb_S32768x1024_S2048x1024_12288_0, piece2048 fx fw b 10240 inb_S32768x1024_S2048x1024_10240_0,
    piece2048 fx fw b 8192 inb_S32768x1024_S2048x1024_8192_0, piece2048 fx fw b 6144 inb_S32768x1024_S2048x1024_6144_0,
    piece2048 fx fw b 4096 inb_S32768x1024_S2048x1024_4096_0, piece2048 fx fw b 2048 inb_S32768x1024_S2048x1024_2048_0,
    piece1024 fx fw b 1024 inb_S32768x1024_S1024x1024_1024_0, piece1024 fx fw b 0 inb_S32768x1024_S1024x1024_0_0]
end

/-! ## A step's result, as the run finds it in its slot -/

/-- A step on 2048 rows, read from the slot it was stored in: the step's tile, once its operands are known. -/
theorem stored2048 {off : Fin 3 → ℕ} {inb : ∀ a, off a + S1x2048x1024.size a ≤ S3x2048x1024.size a} {h}
    {f : (obM.view).ty.Contents (Elt F)} {L : List (View.Piece (Elt F) S3x2048x1024 .f32)}
    {v : FVec F S1x2048x1024 .f32} {w w' : FVec F S1024x1024 .bf16} {b b' : FVec F S1x1024 .f32} {x : FVec F S2048x1024 .f32}
    (hx : shapeCast S2048x1024 v shapeCasts_S1x2048x1024_S2048x1024 = x) (hw : w = w') (hb : b = b') :
    ((obM.slice (Rect.unit (s := S3x2048x1024) off S1x2048x1024.size inb) h).squeeze S2048x1024 squeezes_S1x2048x1024_S2048x1024).view.read (Elt F)
        (obM.view.writes (Elt F) f (⟨Rect.unit (s := S3x2048x1024) off S1x2048x1024.size inb,
          shapeCast S1x2048x1024
            (addf (matmul dot_S2048x1024_S1024x1024_S2048x1024_1_1_0_0_n_n none
                (truncf .bf16 (shapeCast S2048x1024 v shapeCasts_S1x2048x1024_S2048x1024) bitsLt_bf16_f32) w (constant S2048x1024 .f32 0x00000000#32))
              (broadcastTo S2048x1024 b broadcasts_S1x1024_S2048x1024)) shapeCasts_S2048x1024_S1x2048x1024⟩ :: L))
      = tile2048 x w' b' := by
  subst hx hw hb
  exact read_slot_stored obM _ h squeezes_S1x2048x1024_S2048x1024 f _ shapeCasts_S2048x1024_S1x2048x1024 L

/-- A step on 1024 rows, read from the slot it was stored in. -/
theorem stored1024 {off : Fin 3 → ℕ} {inb : ∀ a, off a + S1x1024x1024.size a ≤ S3x2048x1024.size a} {h}
    {f : (obM.view).ty.Contents (Elt F)} {L : List (View.Piece (Elt F) S3x2048x1024 .f32)}
    {v : FVec F S1x1024x1024 .f32} {w w' : FVec F S1024x1024 .bf16} {b b' : FVec F S1x1024 .f32} {x : FVec F S1024x1024 .f32}
    (hx : shapeCast S1024x1024 v shapeCasts_S1x1024x1024_S1024x1024 = x) (hw : w = w') (hb : b = b') :
    ((obM.slice (Rect.unit (s := S3x2048x1024) off S1x1024x1024.size inb) h).squeeze S1024x1024 squeezes_S1x1024x1024_S1024x1024).view.read (Elt F)
        (obM.view.writes (Elt F) f (⟨Rect.unit (s := S3x2048x1024) off S1x1024x1024.size inb,
          shapeCast S1x1024x1024
            (addf (matmul dot_S1024x1024_S1024x1024_S1024x1024_1_1_0_0_n_n none
                (truncf .bf16 (shapeCast S1024x1024 v shapeCasts_S1x1024x1024_S1024x1024) bitsLt_bf16_f32) w (constant S1024x1024 .f32 0x00000000#32))
              (broadcastTo S1024x1024 b broadcasts_S1x1024_S1024x1024)) shapeCasts_S1024x1024_S1x1024x1024⟩ :: L))
      = tile1024 x w' b' := by
  subst hx hw hb
  exact read_slot_stored obM _ h squeezes_S1x1024x1024_S1024x1024 f _ shapeCasts_S1024x1024_S1x1024x1024 L

end Cert.KernelIdeal.Hand
-- ==== Proof.Run.lean ====
/-
  The kernel's body, run once from its entry to its end.

  The kernel takes its own transfers: the weights through a slot of the result's scratch, the input's rows into three
  slots ahead of their use, the result's rows out of three slots. The run gives the list of writes that reach the result;
  each written piece is then shown to be its step's tile of the input's own rows, the weights and the bias.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Body
public import Idealize.ShloMosaic.Lib.VecWindow
public import Idealize.ShloMosaic.Lib.Tactic.Stretches
public import Idealize.ShloMosaic.Lib.Pipeline.FrameBody
public import Idealize.ShloMosaic.Lib.Pipeline.Routed
public import Idealize.ShloMosaic.Lib.Tactic

@[expose] public section

set_option maxRecDepth 16384

noncomputable section

namespace Cert.KernelIdeal.Hand

open Cert.KernelIdeal Cert.KernelIdeal.Gen Cert.Affine
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

/-- The narrowed weights, read back from where the kernel stored them. -/
theorem weights_kept {c : Dev nD} {inb : ∀ a, (![0, 0] : Fin 2 → ℕ) a + S1024x1024.size a ≤ S1024x1024.size a}
    {L : List (View.Piece (Elt F) S1024x1024 .bf16)} {v : FVec F S1x1024x1024 .f32} {fw : Held (F := F) c wM}
    (hv : shapeCast S1024x1024 v shapeCasts_S1x1024x1024_S1024x1024 = wM.view.read (Elt F) fw) :
    wbM.view.readCov (Val := Elt F) (⟨Rect.unit (s := S1024x1024) ![0, 0] S1024x1024.size inb,
        shapeCast S1024x1024 (truncf .bf16 (shapeCast S1024x1024 v shapeCasts_S1x1024x1024_S1024x1024) bitsLt_bf16_f32)
          shapeCasts_S1024x1024_S1024x1024⟩ :: L) (Rect.unit (s := S1024x1024) ![0, 0] S1024x1024.size inb).toLoadRect
      = weights fw := by
  unfold View.readCov
  rw [readAt_stored, shapeCast_same, hv]; rfl

/-- What a transfer of 1024 rows lands in a slot of the scratch, loaded from the slot. -/
theorem landed1024 {M : Memref sig .tc .vmem S3x2048x1024 .f32} {off : Fin 3 → ℕ}
    {inb : ∀ a, off a + S1x1024x1024.size a ≤ S3x2048x1024.size a} {h} (f : M.view.ty.Contents (Elt F)) (w : FVec F S1024x1024 .f32) :
    shapeCast S1024x1024 (M.view.readAt (Elt F) (Rect.unit (s := S3x2048x1024) off S1x1024x1024.size inb).toLoadRect
        (((M.slice (Rect.unit (s := S3x2048x1024) off S1x1024x1024.size inb) h).squeeze S1024x1024
          squeezes_S1x1024x1024_S1024x1024).view.write (Elt F) f w Finset.univ)) shapeCasts_S1x1024x1024_S1024x1024 = w := by
  apply slot_landed

/-- What a transfer of 2048 rows lands in a slot of the scratch, loaded from the slot. -/
theorem landed2048 {M : Memref sig .tc .vmem S3x2048x1024 .f32} {off : Fin 3 → ℕ}
    {inb : ∀ a, off a + S1x2048x1024.size a ≤ S3x2048x1024.size a} {h} (f : M.view.ty.Contents (Elt F)) (w : FVec F S2048x1024 .f32) :
    shapeCast S2048x1024 (M.view.readAt (Elt F) (Rect.unit (s := S3x2048x1024) off S1x2048x1024.size inb).toLoadRect
        (((M.slice (Rect.unit (s := S3x2048x1024) off S1x2048x1024.size inb) h).squeeze S2048x1024
          squeezes_S1x2048x1024_S2048x1024).view.write (Elt F) f w Finset.univ)) shapeCasts_S1x2048x1024_S2048x1024 = w := by
  apply slot_landed

/-- The bias row as the kernel loads it. -/
theorem bias_loaded {bM : Memref sig .tc .vmem S1x1024 .f32} {inb : ∀ a, (![0, 0] : Fin 2 → ℕ) a + S1x1024.size a ≤ S1x1024.size a}
    {fb : bM.view.ty.Contents (Elt F)} {b : FVec F S1x1024 .f32} (hb : bM.view.read (Elt F) fb = b) :
    shapeCast S1x1024 (bM.view.readAt (Elt F) (Rect.unit (s := S1x1024) ![0, 0] S1x1024.size inb).toLoadRect fb) shapeCasts_S1x1024_S1x1024 = b := by
  refine (shapeCast_same (s := S1x1024) _ shapeCasts_S1x1024_S1x1024).trans ?_
  exact (View.readAt_full (s := S1x1024) bM.view fb (off := ![0, 0]) inb).trans hb

/-- A buffer held after writes is held after equal writes. -/
theorem holds_writes {c : Dev nD} {sp : Space} {S : Shape} {e : EltTy} {M : Memref sig .tc sp S e} {f : Held (F := F) c M}
    {L L' : List (View.Piece (Elt F) S e)} (h : L = L') :
    holds c M (M.view.writes (Elt F) f L) ⊢ (holds c M (M.view.writes (Elt F) f L') : sProp 𝕄) := by rw [h]

set_option maxHeartbeats 400000 in
set_option sl_exec.dmaWindow true in
/-- THE BODY'S RUN. From the bias row staged, the input, the weights and the result held whole in HBM, the three scratch buffers
    at any contents and the seven transfer counters at zero, the kernel's body runs to its end, leaves the operands as they were
    and the counters at zero, and writes into the result the eighteen pieces `pieces`. -/
theorem body_run (c : Dev nD) (bM : Memref sig .tc .vmem S1x1024 .f32) (hbM : bM.IsWhole) (b : FVec F S1x1024 .f32)
    (fx : Held (F := F) c xM) (fw : Held (F := F) c wM) (fo : Held (F := F) c oM) (W : Waits sig Unit) (K : PUnit → sProp 𝕄) :
    iprop(owns (c : Thread nD τ) bM fullShare b
        ∗ holds c xM fx ∗ holds c wM fw ∗ holds c oM fo
        ∗ (∃ f, holds c xbM f) ∗ (∃ f, holds c obM f) ∗ (∃ f, holds c wbM f)
        ∗ semVal ((c : Thread nD τ), SemLoc.dma 1) 0 ∗ semVal ((c : Thread nD τ), SemLoc.dma 2) 0
        ∗ semVal ((c : Thread nD τ), SemLoc.dma 3) 0 ∗ semVal ((c : Thread nD τ), SemLoc.dma 4) 0
        ∗ semVal ((c : Thread nD τ), SemLoc.dma 5) 0 ∗ semVal ((c : Thread nD τ), SemLoc.dma 6) 0
        ∗ semVal ((c : Thread nD τ), SemLoc.dma 7) 0
        ∗ owes (c : Thread nD τ) 0 W
        ∗ (iprop(owns (c : Thread nD τ) bM fullShare b
            ∗ holds c xM fx ∗ holds c wM fw ∗ holds c oM (oM.view.writes (Elt F) fo (pieces fx fw b))
            ∗ (∃ f, holds c xbM f) ∗ (∃ f, holds c obM f) ∗ (∃ f, holds c wbM f)
            ∗ semVal ((c : Thread nD τ), SemLoc.dma 1) 0 ∗ semVal ((c : Thread nD τ), SemLoc.dma 2) 0
            ∗ semVal ((c : Thread nD τ), SemLoc.dma 3) 0 ∗ semVal ((c : Thread nD τ), SemLoc.dma 4) 0
            ∗ semVal ((c : Thread nD τ), SemLoc.dma 5) 0 ∗ semVal ((c : Thread nD τ), SemLoc.dma 6) 0
            ∗ semVal ((c : Thread nD τ), SemLoc.dma 7) 0
            ∗ (∃ W', owes (c : Thread nD τ) 0 W')) -∗ K ⟨⟩))
      ⊢ wp frame (wpE (defs₀ (F := F)) Variants.none c none) Set.univ
        (cc0__affine_kernel xM (Memref.isWhole_whole _) wM (Memref.isWhole_whole _) bM hbM oM (Memref.isWhole_whole _)
          xbM (Memref.isWhole_whole _) obM (Memref.isWhole_whole _) wbM (Memref.isWhole_whole _) cc0_scratch3 cc0_scratch4 cc0_scratch5) K := by
  simp only [cc0__affine_kernel_eq_skeleton]; unfold cc0__affine_kernel_skel
  unfold owns
  iintro ⟨⟨%fb, %hb, Hb⟩, Hx, Hw, Ho, ⟨%gx, Hxb⟩, ⟨%go, Hob⟩, ⟨%gw, Hwb⟩, Hq1, Hq2, Hq3, Hq4, Hq5, Hq6, Hq7, HW, Hk⟩
  sl_exec
  sl_step
  iapply Hk
  isplitl [Hb]
  · iexists _; isplitr; swap; · iexact Hb
    ipureintro; exact hb
  isplitl [Hx]; · iexact Hx
  isplitl [Hw]; · iexact Hw
  isplitl [Ho]
  · iapply holds_writes ?pieces $$ Ho
    case pieces =>
      unfold pieces
      iterate 18 (refine cons_piece ?_ ?_; swap)
      · rfl
      iterate 2
        · sl_open_run
          sl_open_pay
          refine stored1024 ?_ ?_ ?_
          · repeat rw [slot_other _ _ _ _ _ _ _ (Rect.unit_disjoint 0 (by decide))]
            exact landed1024 _ _
          · exact weights_kept (landed1024 _ _)
          · exact bias_loaded hb
      iterate 14
        · sl_open_run
          sl_open_pay
          refine stored2048 ?_ ?_ ?_
          · repeat rw [slot_other _ _ _ _ _ _ _ (Rect.unit_disjoint 0 (by decide))]
            exact landed2048 _ _
          · exact weights_kept (landed1024 _ _)
          · exact bias_loaded hb
      iterate 2
        · sl_open_run
          sl_open_pay
          refine stored1024 ?_ ?_ ?_
          · repeat rw [slot_other _ _ _ _ _ _ _ (Rect.unit_disjoint 0 (by decide))]
            exact landed1024 _ _
          · exact weights_kept (landed1024 _ _)
          · exact bias_loaded hb
  isplitl [Hxb]; · iexists _; iexact Hxb
  isplitl [Hob]; · iexists _; iexact Hob
  isplitl [Hwb]; · iexists _; iexact Hwb
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  iexists _; iexact HW

end Cert.KernelIdeal.Hand
-- ==== Proof.Frame.lean ====
/-
  The launch: from the body's run to the whole program's run.

  @main reshapes the bias into a row and calls the kernel once. The kernel's region stages the bias row; the input, the
  weights and the result stay in HBM and pass through the body's invariant, the result leaving with the body's pieces written.
-/
module

public import proofs.«01_k».proof.Proof.Gen.KernelIdeal.Frame
public import proofs.«01_k».proof.Proof.Run

@[expose] public section

set_option maxRecDepth 16384

noncomputable section

namespace Cert.KernelIdeal.Hand

open Cert.KernelIdeal Cert.KernelIdeal.Gen Cert.Affine
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UC sig nD τ) ℕ

variable (m : (ℓ : Loc nD τ sig) → Buf (Elt F) ℓ) (ρ : Dev nD → PrngReg)

/-! ## What the body holds -/

/-- The kernel's own transfer counters: the weights', the three slots' in, the three slots' out. -/
abbrev osem0 : Fin 7 → SemLoc sig := fun j =>
  (![SemLoc.dma 1, SemLoc.dma 2, SemLoc.dma 3, SemLoc.dma 4, SemLoc.dma 5, SemLoc.dma 6, SemLoc.dma 7] : Fin 7 → SemLoc sig) j
/-- They are scoped, distinct, and no staging counter. -/
theorem ownSemFacts0 : Pipeline.OwnSemFacts spec0 osem0 := by decide
/-- The counters at zero, one by one. -/
theorem ownSems0_eq (c : Dev nD) :
    (Pipeline.ownSems0 (Ix := Unit) (Name := ℕ) (U := Pipeline.UC sig nD τ) (Lvl := ℕ) (Val := Elt F) (τ := τ) osem0 c : sProp 𝕄)
      = iprop(semVal ((c : Thread nD τ), SemLoc.dma 1) 0 ∗ semVal ((c : Thread nD τ), SemLoc.dma 2) 0
          ∗ semVal ((c : Thread nD τ), SemLoc.dma 3) 0 ∗ semVal ((c : Thread nD τ), SemLoc.dma 4) 0
          ∗ semVal ((c : Thread nD τ), SemLoc.dma 5) 0 ∗ semVal ((c : Thread nD τ), SemLoc.dma 6) 0
          ∗ semVal ((c : Thread nD τ), SemLoc.dma 7) 0) := by
  rw [Pipeline.ownSems0_eq_of_list c osem0 [0, 1, 2, 3, 4, 5, 6] (by decide) (by decide)]; rfl

/-- The buffers that the body reads or writes where they lie: the input, the weights and the result. -/
def R0 : Finset (Ref sig .tc) := {main_arg0, main_arg2, main_v1}
/-- None is scoped, and none is a staged array. -/
theorem R0_sub : R0 ⊆ Pipeline.restRefs sig spec0 := by decide
/-- The three held whole, one by one. -/
theorem routed_eq (c : Dev nD) (W : (b : Ref sig .tc) → Buf (Elt F) ((c : Thread nD τ).loc b)) :
    (Pipeline.routed R0 c W : sProp 𝕄)
      = iprop(holds c xM (W main_arg0) ∗ holds c wM (W main_arg2) ∗ holds c oM (W main_v1)) := by
  unfold Pipeline.routed; rw [BI.bigSep_eq_bigSepL_of_eq [main_arg0, main_arg2, main_v1] (by decide) (by decide)]; rfl

/-- The bias row, as the kernel's region stages it. -/
def biasRow (c : Dev nD) : FVec F S1x1024 .f32 := iblk m c 0 t0_0
/-- The result as the body leaves it: the eighteen pieces written over what it held. -/
def left (c : Dev nD) : Held (F := F) c oM :=
  oM.view.writes (Elt F) (V m c main_v1) (pieces (V m c main_arg0) (V m c main_arg2) (biasRow m c))
/-- The buffers as the region leaves them. -/
def Y (c : Dev nD) : (b : Ref sig .tc) → Buf (Elt F) ((c : Thread nD τ).loc b) := Function.update (V m c) main_v1 (left m c)

/-- The region leaves the input as it finds it. -/
theorem Y_arg0 (c : Dev nD) : Y m c main_arg0 = V m c main_arg0 := Function.update_of_ne (by decide) _ _
/-- It leaves the weights as it finds them. -/
theorem Y_arg2 (c : Dev nD) : Y m c main_arg2 = V m c main_arg2 := Function.update_of_ne (by decide) _ _
/-- It leaves the result at the pieces. -/
theorem Y_v1 (c : Dev nD) : Y m c main_v1 = left m c := Function.update_self _ _ _

/-- The buffers before point `n`: as the region finds them at the start, as it leaves them after the one point. -/
def heldAt (c : Dev nD) : ℕ → (b : Ref sig .tc) → Buf (Elt F) ((c : Thread nD τ).loc b)
  | 0 => V m c
  | _ + 1 => Y m c

/-- The proof data of the one region on core `c`. -/
def dats (_ : Fin 1) (c : Dev nD) : Dat τ (Elt F) Unit ℕ (Pipeline.UC sig nD τ) ℕ cfg0 c where
  A w := V m c (Pipeline.arrRef spec0 w)
  after w t := match w with
    | ⟨0, _⟩ => biasRow m c
  Φ t := Pipeline.Ends spec0 osem0 R0 c (heldAt m c t.val)
  q _ := fullShare
  owed _ := 0

/-- The proof data take the staged array as the region finds it. -/
theorem A_eq (c : Dev nD) (w : Fin cfg0.W) : (dats m 0 c).A w = V m c (Pipeline.arrRef spec0 w) := by
  dsimp only [dats]
/-- The body leaves the bias row in its staging buffer. -/
theorem after0_0 (c : Dev nD) (t : Fin cfg0.N) : (dats m 0 c).after 0 t = biasRow m c := by dsimp only [dats]
/-- The staging buffer holds the bias row when the body starts. -/
theorem before0_0 (c : Dev nD) (t : Fin cfg0.N) (d) : (dats m 0 c).before 0 t d = biasRow m c := by
  obtain rfl := fin_N0 t
  unfold biasRow
  exact ((dats m 0 c).before_in_eq_fetched 0 rfl (fun _ => rfl) (fun _ _ _ => rfl)
    (fun t => by obtain rfl := fin_N0 t; rw [after0_0]; unfold Dat.blockOf biasRow iblk; rw [A_eq]; try rfl) t0_0 d).trans
    (by unfold Dat.fetched Dat.blockOf iblk; rw [A_eq]; try rfl)

/-- What the body starts from. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)))
/-- What the body leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t))

/-- The body at the region's one point. -/
theorem sound_body (c : Dev nD) (t : Fin cfg0.N) :
    bodyPre m c t ⊢ wp frame (wpE (defs₀ (F := F)) Variants.none c none) Set.univ (bodyAt0 t) (fun _ => bodyPost m c t) := by
  obtain rfl := fin_N0 t
  unfold bodyPre bodyPost bodyAt0
  rw [after0_0, show (dats m 0 c).Φ t0_0.castSucc = Pipeline.Ends spec0 osem0 R0 c (V m c) from rfl,
    show (dats m 0 c).Φ t0_0.succ = Pipeline.Ends spec0 osem0 R0 c (Y m c) from rfl]
  simp only [before0_0]
  unfold Pipeline.Ends
  rw [routed_eq, routed_eq, ownSems0_eq, scopedRest0_eq, Y_arg0, Y_arg2, Y_v1]
  unfold left
  unfold Dat.owesAt Pipeline.owesWithin
  rw [show (dats m 0 c).owed t0_0.castSucc = 0 from rfl, show (dats m 0 c).owed t0_0.succ = 0 from rfl]
  iintro ⟨⟨⟨Hx, Hw, Ho⟩, ⟨Hq1, Hq2, Hq3, Hq4, Hq5, Hq6, Hq7⟩, ⟨Hxb, Hob, Hwb⟩, Hg⟩, ⟨%W, -, HW⟩, ⟨%d0, Hb⟩⟩
  iapply (body_run c _ _ (biasRow m c) (V m c main_arg0) (V m c main_arg2) (V m c main_v1) W _)
  isplitl [Hb]; · iexact Hb
  isplitl [Hx]; · iexact Hx
  isplitl [Hw]; · iexact Hw
  isplitl [Ho]; · iexact Ho
  isplitl [Hxb]; · iexact Hxb
  isplitl [Hob]; · iexact Hob
  isplitl [Hwb]; · iexact Hwb
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [HW]; · iexact HW
  iintro ⟨Hb, Hx, Hw, Ho, Hxb, Hob, Hwb, Hq1, Hq2, Hq3, Hq4, Hq5, Hq6, Hq7, ⟨%W', HW'⟩⟩
  isplitl [Hx Hw Ho Hxb Hob Hwb Hq1 Hq2 Hq3 Hq4 Hq5 Hq6 Hq7 Hg]
  · isplitl [Hx Hw Ho]
    · isplitl [Hx]; · iexact Hx
      isplitl [Hw]; · iexact Hw
      iexact Ho
    isplitl [Hq1 Hq2 Hq3 Hq4 Hq5 Hq6 Hq7]
    · isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      iexact Hq7
    isplitl [Hxb Hob Hwb]
    · isplitl [Hxb]; · iexact Hxb
      isplitl [Hob]; · iexact Hob
      iexact Hwb
    iexact Hg
  isplitl [HW']
  · iexists W'; isplitr; · ipureintro; exact fun _ _ => Or.inl trivial
    iexact HW'
  iexact Hb

/-- The body table's row at the region's point is the body there. -/
theorem defs₀_row (t : Fin cfg0.N) :
    defs₀ (F := F) .tc cfg0.body (cfg0.bodyArgs t (cfg0.slots t)) = bodyAt0 t := by
  unfold defs₀; rw [Defs.onTc_tc]

/-- The body's run, in the form that the launch asks for. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option maxHeartbeats 800000 in
/-- @main up to the region. -/
theorem hmain_own : Pipeline.HMain (Ix := Unit) (Name := ℕ) (U := Pipeline.UC sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- THE RUN: the program terminates, the result holds the body's pieces, every argument is as launched, every counter is zero. -/
theorem run_main : θ_run defs (onTc (τ := τ) (main (F := F))) ⟨m, fun _ => 0, ρ⟩ (fun r => (∀ c : Dev nD,
      r.2.mem ((c.tc : Thread nD τ).loc main_v1) = left m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_routed cfgs (dats m) (0 : Fin 1) launch0 ownSemFacts0 defs₀ Variants.none m ρ main
    (hbody := fun c => (body_obligation m c).loose) (hshare := fun c => (dats m 0 c).share_full fun _ => rfl)
    (howed := fun _ _ => rfl) (V := V m) (hmain := hmain_own m) (hA := A_eq m) (R := R0) (hR := R0_sub) (Y := Y m)
    (hin := fun _ => .rfl) (hout := fun _ => .rfl) (Q' := _) (hQ' := fun r h => ⟨fun c =>
      ⟨((h.1 c).2.1 main_v1 (by decide)).trans (Y_v1 m c),
        (((h.1 c).2.1 main_arg0 (by decide)).trans (Y_arg0 m c)).trans (V_main_arg0 m c),
        ((h.1 c).2.2 main_arg1 (by decide)).trans (V_main_arg1 m c),
        (((h.1 c).2.1 main_arg2 (by decide)).trans (Y_arg2 m c)).trans (V_main_arg2 m c),
        ((h.1 c).2.2 main_arg3 (by decide)).trans (V_main_arg3 m c)⟩, h.2⟩)

/-- THE FRAME: the program terminates, every argument is as launched, every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_main m ρ)

end Cert.KernelIdeal.Hand
-- ==== Proof.Same.lean ====
/-
  The kernel's frame at machine floats.

  The kernel is printed twice, once to be read at machine floats and once at the extended reals. The two texts are the
  same program, generic in the floats, so the frame proved for every kind of float holds of the first as well.
-/
module

public import proofs.«01_k».proof.Defs
public import proofs.«01_k».proof.Proof.Gen.Kernel
public import proofs.«01_k».proof.Proof.Frame

@[expose] public section

set_option maxRecDepth 16384

noncomputable section

namespace Cert.Kernel.Hand

open Idealize.ShloMosaic Idealize.SL.Sem

variable {F : FTy → Type} [FloatOps F]

/-- The two texts have one body. -/
theorem body_same : Cert.Kernel.cc0__affine_kernel (F := F) = Cert.KernelIdeal.cc0__affine_kernel (F := F) := rfl

/-- The two texts have one body table. -/
theorem defs₀_same : Cert.Kernel.defs₀ (F := F) = Cert.KernelIdeal.defs₀ (F := F) := by
  unfold Cert.Kernel.defs₀ Cert.KernelIdeal.defs₀
  refine congrArg Defs.onTc ?_
  funext l a
  match l, a with
  | 0, (t, s) => rfl

/-- The two texts have one table of regions and bodies. -/
theorem defs_same : Cert.Kernel.defs (F := F) = Cert.KernelIdeal.defs (F := F) := by
  unfold Cert.Kernel.defs Cert.KernelIdeal.defs
  rw [defs₀_same]; rfl

/-- THE FRAME at machine floats: the kernel terminates, every argument is as launched, every counter is zero. -/
theorem frame : Cert.quiescent_Kernel (hKernel := Cert.Kernel.Gen.facts) := by
  intro m g _
  rw [defs_same]
  exact Cert.KernelIdeal.Hand.frame (F := Bits) m g

end Cert.Kernel.Hand
-- ==== Proof.Value.lean ====
/-
  What the kernel computes, in extended reals.

  Read with exact arithmetic, a step's tile is the affine map of its rows, and the eighteen pieces are the affine map
  of the whole input cut along its rows. They cover the result, so the result is the affine map everywhere.
-/
module

public import proofs.«01_k».proof.Proof.Frame
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.Affine
open Idealize.ShloMosaic Idealize.ShloMosaic.TcCoe

/-- The affine map: each entry of the result is its input row times its row of weights, plus its bias. -/
def affine (x : S32768x1024.Idx → EReal) (w : S1024x1024.Idx → EReal) (b : S1024.Idx → EReal) : S32768x1024.Idx → EReal :=
  fun i => (∑ k : Fin 1024, x (ix2 (i 0) k) * w (ix2 (i 1) k)) + b (ix1 (i 1))

/-- A step on 2048 rows at an entry. -/
theorem tile2048_apply (x : FVec Ideal S2048x1024 .f32) (w : FVec Ideal S1024x1024 .bf16) (b : FVec Ideal S1x1024 .f32) (j : S2048x1024.Idx) :
    tile2048 x w b j = (∑ k : Fin 1024, x (ix2 (j 0) k) * w (ix2 (j 1) k) : EReal) + b (ix2 0 (j 1)) := by
  pointwise [tile2048]

/-- A step on 1024 rows at an entry. -/
theorem tile1024_apply (x : FVec Ideal S1024x1024 .f32) (w : FVec Ideal S1024x1024 .bf16) (b : FVec Ideal S1x1024 .f32) (j : S1024x1024.Idx) :
    tile1024 x w b j = (∑ k : Fin 1024, x (ix2 (j 0) k) * w (ix2 (j 1) k) : EReal) + b (ix2 0 (j 1)) := by
  pointwise [tile1024]

/-- The weights at an entry: the format change is the identity. -/
theorem weights_apply {c : Dev nD} (fw : Held (F := Ideal) c wM) (j : S1024x1024.Idx) : weights fw j = fw j := rfl

/-- Where an entry of a row's block lies: in its own row, at its own column. -/
theorem rows2048_emb (o : ℕ) (h) (j : S2048x1024.Idx) (k : Fin 1024) :
    (rows2048 o h).emb (ix2 (j 0) k) = ix2 ((rows2048 o h).emb j 0) k := by
  funext a; apply Fin.ext
  match a with
  | 0 => rfl
  | 1 => show 0 + 1 * k.val = k.val; omega
/-- The block's columns are the array's. -/
theorem rows2048_col (o : ℕ) (h) (j : S2048x1024.Idx) : (rows2048 o h).emb j 1 = j 1 := by
  apply Fin.ext; show 0 + 1 * (j 1).val = (j 1).val; omega
/-- The block holds its rows and no others. -/
theorem mem_rows2048 (o : ℕ) (h) (y : S32768x1024.Idx) : y ∈ (rows2048 o h).set ↔ o ≤ (y 0).val ∧ (y 0).val < o + 2048 := by
  have h1 : (y 1).val < 1024 := (y 1).isLt
  rw [Rect.mem_set_unit, Fin.forall_fin_two]
  show (o ≤ (y 0).val ∧ (y 0).val < o + 2048) ∧ (0 ≤ (y 1).val ∧ (y 1).val < 0 + 1024) ↔ _
  omega
/-- The same for 1024 rows: an entry of a row's block lies in its own row, at its own column. -/
theorem rows1024_emb (o : ℕ) (h) (j : S1024x1024.Idx) (k : Fin 1024) :
    (rows1024 o h).emb (ix2 (j 0) k) = ix2 ((rows1024 o h).emb j 0) k := by
  funext a; apply Fin.ext
  match a with
  | 0 => rfl
  | 1 => show 0 + 1 * k.val = k.val; omega
/-- The same for 1024 rows: the block's columns are the array's. -/
theorem rows1024_col (o : ℕ) (h) (j : S1024x1024.Idx) : (rows1024 o h).emb j 1 = j 1 := by
  apply Fin.ext; show 0 + 1 * (j 1).val = (j 1).val; omega
/-- The same for 1024 rows: the block holds its rows and no others. -/
theorem mem_rows1024 (o : ℕ) (h) (y : S32768x1024.Idx) : y ∈ (rows1024 o h).set ↔ o ≤ (y 0).val ∧ (y 0).val < o + 1024 := by
  have h1 : (y 1).val < 1024 := (y 1).isLt
  rw [Rect.mem_set_unit, Fin.forall_fin_two]
  show (o ≤ (y 0).val ∧ (y 0).val < o + 1024) ∧ (0 ≤ (y 1).val ∧ (y 1).val < 0 + 1024) ↔ _
  omega

section
variable {c : Dev nD} (fx : Held (F := Ideal) c xM) (fw : Held (F := Ideal) c wM) (b : FVec Ideal S1x1024 .f32) (b' : S1024.Idx → EReal)
  (hb : ∀ k : Fin 1024, b (ix2 0 k) = b' (ix1 k))
include hb

/-- A 2048-row piece is the affine map at the piece's place. -/
theorem piece2048_apply (o : ℕ) (h) (j : S2048x1024.Idx) :
    (piece2048 fx fw b o h).2 j = affine fx fw b' ((rows2048 o h).emb j) := by
  refine (tile2048_apply _ _ _ j).trans ?_
  unfold affine
  rw [rows2048_col]
  exact congrArg₂ (· + ·) (Finset.sum_congr rfl fun k _ =>
    congrArg (· * fw (ix2 (j 1) k)) (congrArg fx (rows2048_emb o h j k))) (hb _)

/-- A 1024-row piece is the affine map at the piece's place. -/
theorem piece1024_apply (o : ℕ) (h) (j : S1024x1024.Idx) :
    (piece1024 fx fw b o h).2 j = affine fx fw b' ((rows1024 o h).emb j) := by
  refine (tile1024_apply _ _ _ j).trans ?_
  unfold affine
  rw [rows1024_col]
  exact congrArg₂ (· + ·) (Finset.sum_congr rfl fun k _ =>
    congrArg (· * fw (ix2 (j 1) k)) (congrArg fx (rows1024_emb o h j k))) (hb _)

/-- Every piece is the affine map at its place. -/
theorem pieces_agree : ∀ p ∈ pieces fx fw b, ∀ j : p.1.shape.Idx, p.2 j = affine fx fw b' (p.1.emb j) := by
  simp only [pieces, List.forall_mem_cons]
  refine ⟨piece1024_apply fx fw b b' hb _ _, piece1024_apply fx fw b b' hb _ _, ?_⟩
  iterate 14 refine ⟨piece2048_apply fx fw b b' hb _ _, ?_⟩
  exact ⟨piece1024_apply fx fw b b' hb _ _, piece1024_apply fx fw b b' hb _ _, fun p hp => absurd hp List.not_mem_nil⟩
end

/-- The pieces cover the result. -/
theorem pieces_cover {c : Dev nD} (fx : Held (F := Ideal) c xM) (fw : Held (F := Ideal) c wM) (b : FVec Ideal S1x1024 .f32)
    (y : S32768x1024.Idx) : ∃ p ∈ pieces fx fw b, y ∈ p.1.set := by
  by_contra hn
  have h : ∀ p ∈ pieces fx fw b, y ∉ p.1.set := fun p hp hy => hn ⟨p, hp, hy⟩
  have h0 : (y 0).val < 32768 := (y 0).isLt
  simp only [pieces, List.forall_mem_cons, piece1024, piece2048, mem_rows1024, mem_rows2048] at h
  omega

/-- The pieces written over anything are the affine map. -/
theorem written {c : Dev nD} (f : Held (F := Ideal) c oM) (fx : Held (F := Ideal) c xM) (fw : Held (F := Ideal) c wM)
    (b : FVec Ideal S1x1024 .f32) (b' : S1024.Idx → EReal) (hb : ∀ k : Fin 1024, b (ix2 0 k) = b' (ix1 k)) :
    oM.view.writes (Elt Ideal) f (pieces fx fw b) = affine fx fw b' := by
  have e : oM.view.read (Elt Ideal) (oM.view.writes (Elt Ideal) f (pieces fx fw b)) = affine fx fw b' :=
    funext fun y => View.read_writes_apply_of_pieces (v := oM.view) (f := f) (affine fx fw b') (pieces fx fw b)
      (pieces_agree fx fw b b' hb) y (pieces_cover fx fw b y)
  generalize oM.view.writes (Elt Ideal) f (pieces fx fw b) = g at e ⊢
  exact e

variable (m : (ℓ : Loc nD τ sig) → Buf (Elt Ideal) ℓ)

/-- The bias row holds the bias. -/
theorem biasRow_apply (c : Dev nD) (k : Fin 1024) :
    biasRow m c (ix2 0 k) = m ((c : Thread nD τ).loc main_arg3) (ix1 k) := by
  refine Eq.trans (b := V m c main_v0 (ix2 0 k)) ?_ ?_
  · have h0 : win0_0.index t0_0 0 = 0 := rfl
    have h1 : win0_0.index t0_0 1 = 0 := rfl
    unfold biasRow
    blk_ext [iblk, h0, h1]
  · entry_read
    pointwise

/-- What the kernel leaves in the result: the affine map of the arguments. -/
theorem left_eq (c : Dev nD) : left m c = affine (m ((c : Thread nD τ).loc main_arg0)) (m ((c : Thread nD τ).loc main_arg2)) (m ((c : Thread nD τ).loc main_arg3)) := by
  have e := written (V m c main_v1) (V m c main_arg0) (V m c main_arg2) (biasRow m c) (m ((c : Thread nD τ).loc main_arg3)) (biasRow_apply m c)
  rw [V_main_arg0 m c, V_main_arg2 m c] at e
  unfold left
  rw [V_main_arg0 m c, V_main_arg2 m c]
  exact e

end Cert.KernelIdeal.Hand
-- ==== Proof.Reference.lean ====
/-
  The reference on the ideal machine, and the kernel against it.

  The reference has no semaphore, so every counter ends at zero whatever it does. Its one result, read index by index,
  is the affine map of its arguments, which is what the kernel leaves too.
-/
module

public import proofs.«01_k».proof.Defs
public import proofs.«01_k».proof.Proof.Value
public import proofs.«01_k».proof.Proof.Gen.ReferenceIdeal
public import proofs.«01_k».proof.Proof.Gen.ReferenceIdeal.Run
public import Idealize.ShloMosaic.Lib.Quiescent

@[expose] public section

noncomputable section

namespace Cert.ReferenceIdeal.Hand

open Idealize.ShloMosaic Idealize.SL.Sem Cert.ReferenceIdeal Cert.ReferenceIdeal.Gen

/-- The reference's term is the affine map. -/
theorem value (x : FVec Ideal S32768x1024 .f32) (w : FVec Ideal S1024x1024 .f32) (b : FVec Ideal S1024 .f32) :
    addf (Host.dotGeneral dot_S32768x1024_S1024x1024_S32768x1024_1_0_0_1_n_n none x
        (transpose S1024x1024 [1, 0] w transposes_S1024x1024_S1024x1024_1_0))
      (broadcastInDim S32768x1024 ![0, 1] bcast_S1x1024_S32768x1024_0_1 (broadcastInDim S1x1024 ![1] bcast_S1024_S1x1024_1 b))
      = Cert.KernelIdeal.Hand.affine x w b := by
  funext i
  pointwise [Cert.KernelIdeal.Hand.affine]

/-- The reference runs, leaves its arguments as they were and every counter at zero: it has no counter. -/
theorem frame : Cert.quiescent_ReferenceIdeal (hReferenceIdeal := Cert.ReferenceIdeal.Gen.facts) := by
  intro m g _
  exact (θ_run defs _ _).mono (fun r h => ⟨fun c => (h c).2, sem_eq_zero_of_no_sems (by decide) r.2⟩)
    (Cert.ReferenceIdeal.Value.run m g)

/-- From memories that agree on the arguments, the kernel and the reference leave the same result: the affine map. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨Cert.KernelIdeal.Hand.left m, (θ_run Cert.KernelIdeal.defs _ _).mono (fun r h => h.1) (Cert.KernelIdeal.Hand.run_main m g),
    (θ_run defs _ _).mono (fun r h c => ⟨(h c).1.trans ?_, (h c).2⟩) (Cert.ReferenceIdeal.Value.run m' g')⟩
  refine (value _ _ _).trans ?_
  rw [(hagree c).1, (hagree c).2.2.1, (hagree c).2.2.2]
  exact (Cert.KernelIdeal.Hand.left_eq m c).symm

end Cert.ReferenceIdeal.Hand

end
-- ==== Proof.lean ====
/-
  The five claims about the affine kernel, put together.

  The kernel as compiled and its idealization each run to the end and put everything back; so does the reference;
  nothing was rewritten in idealizing; and over the extended reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Same
public import proofs.«01_k».proof.Proof.Value
public import proofs.«01_k».proof.Proof.Reference
public import Idealize.ShloMosaic.Adequacy
public import Idealize.ShloMosaic.Init

@[expose] public section

noncomputable section

namespace Cert.Proof

/-- Every claim: the three frames, the idealization, and the kernel's result against the reference's. -/
theorem claim : Cert.Claim :=
  ⟨Cert.Kernel.Gen.facts, Cert.KernelIdeal.Gen.facts, Cert.ReferenceIdeal.Gen.facts, Cert.Kernel.Hand.frame,
    fun m g _ => Cert.KernelIdeal.Hand.frame m g, Cert.ReferenceIdeal.Hand.frame, trivial, Cert.ReferenceIdeal.Hand.algebraic⟩

end Cert.Proof

end
